-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3072x2048 : Shape := ⟨3, ![4, 3072, 2048]⟩
abbrev S2048x4096 : Shape := ⟨2, ![2048, 4096]⟩
abbrev S4096 : Shape := ⟨1, ![4096]⟩
abbrev S1 : Shape := ⟨1, ![1]⟩
abbrev S1x1 : Shape := ⟨2, ![1, 1]⟩
abbrev S12288x2048 : Shape := ⟨2, ![12288, 2048]⟩
abbrev S1x4096 : Shape := ⟨2, ![1, 4096]⟩
abbrev S1536x8x4096 : Shape := ⟨3, ![1536, 8, 4096]⟩
abbrev S1024x2048 : Shape := ⟨2, ![1024, 2048]⟩
abbrev S128x8x4096 : Shape := ⟨3, ![128, 8, 4096]⟩
abbrev S1x256 : Shape := ⟨2, ![1, 256]⟩
abbrev S512x2048 : Shape := ⟨2, ![512, 2048]⟩
abbrev S2048x512 : Shape := ⟨2, ![2048, 512]⟩
abbrev S512x512 : Shape := ⟨2, ![512, 512]⟩
abbrev S1x512 : Shape := ⟨2, ![1, 512]⟩
abbrev S64x8x512 : Shape := ⟨3, ![64, 8, 512]⟩
abbrev S4x3072x4096 : Shape := ⟨3, ![4, 3072, 4096]⟩

abbrev nBuf : Space → Nat
  | .hbm => 13
  | .vmem => 10
  | .smem => 0
  | _ => 0

abbrev bufTy : (tb : Table) → Fin (tcTables nBuf tb) → BufTy
  | .hbm, ⟨0, _⟩ => ⟨S4x3072x2048, .bf16⟩
  | .hbm, ⟨1, _⟩ => ⟨S2048x4096, .fp8e4m3⟩
  | .hbm, ⟨2, _⟩ => ⟨S4096, .f32⟩
  | .hbm, ⟨3, _⟩ => ⟨S1, .f32⟩
  | .hbm, ⟨4, _⟩ => ⟨S4096, .f32⟩
  | .hbm, ⟨5, _⟩ => ⟨S1x1, .f32⟩
  | .hbm, ⟨6, _⟩ => ⟨S12288x2048, .bf16⟩
  | .hbm, ⟨7, _⟩ => ⟨S1x4096, .f32⟩
  | .hbm, ⟨8, _⟩ => ⟨S1x4096, .f32⟩
  | .hbm, ⟨9, _⟩ => ⟨S1536x8x4096, .bf16⟩
  | .hbm, ⟨10, _⟩ => ⟨S12288x2048, .fp8e4m3⟩
  | .hbm, ⟨11, _⟩ => ⟨S4x3072x4096, .bf16⟩
  | .hbm, ⟨12, _⟩ => ⟨S4x3072x2048, .fp8e4m3⟩
  | .local _ .vmem, ⟨0, _⟩ => ⟨S1x1, .f32⟩
  | .local _ .vmem, ⟨1, _⟩ => ⟨S1024x2048, .bf16⟩
  | .local _ .vmem, ⟨2, _⟩ => ⟨S1024x2048, .bf16⟩
  | .local _ .vmem, ⟨3, _⟩ => ⟨S2048x4096, .fp8e4m3⟩
  | .local _ .vmem, ⟨4, _⟩ => ⟨S1x4096, .f32⟩
  | .local _ .vmem, ⟨5, _⟩ => ⟨S1x4096, .f32⟩
  | .local _ .vmem, ⟨6, _⟩ => ⟨S128x8x4096, .bf16⟩
  | .local _ .vmem, ⟨7, _⟩ => ⟨S128x8x4096, .bf16⟩
  | .local _ .vmem, ⟨8, _⟩ => ⟨S1024x2048, .fp8e4m3⟩
  | .local _ .vmem, ⟨9, _⟩ => ⟨S1024x2048, .fp8e4m3⟩
  | _, _ => ⟨S4x3072x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x8x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x3072x2048 : Shape := ⟨3, ![4, 3072, 2048]⟩
abbrev S2048x4096 : Shape := ⟨2, ![2048, 4096]⟩
abbrev S4096 : Shape := ⟨1, ![4096]⟩
abbrev S1 : Shape := ⟨1, ![1]⟩
abbrev S1x1x4096 : Shape := ⟨3, ![1, 1, 4096]⟩
abbrev S1x1x1 : Shape := ⟨3, ![1, 1, 1]⟩
abbrev S4x3072x4096 : Shape := ⟨3, ![4, 3072, 4096]⟩

abbrev nBuf : Space → Nat
  | .hbm => 10
  | .vmem => 7
  | .smem => 0
  | _ => 0

abbrev bufTy : (tb : Table) → Fin (tcTables nBuf tb) → BufTy
  | .hbm, ⟨0, _⟩ => ⟨S4x3072x2048, .bf16⟩
  | .hbm, ⟨1, _⟩ => ⟨S2048x4096, .fp8e4m3⟩
  | .hbm, ⟨2, _⟩ => ⟨S4096, .f32⟩
  | .hbm, ⟨3, _⟩ => ⟨S1, .f32⟩
  | .hbm, ⟨4, _⟩ => ⟨S4096, .f32⟩
  | .hbm, ⟨5, _⟩ => ⟨S1x1x4096, .f32⟩
  | .hbm, ⟨6, _⟩ => ⟨S1x1x1, .f32⟩
  | .hbm, ⟨7, _⟩ => ⟨S1x1x4096, .f32⟩
  | .hbm, ⟨8, _⟩ => ⟨S4x3072x4096, .bf16⟩
  | .hbm, ⟨9, _⟩ => ⟨S4x3072x2048, .fp8e4m3⟩
  | .local _ .vmem, ⟨0, _⟩ => ⟨S4x3072x2048, .bf16⟩
  | .local _ .vmem, ⟨1, _⟩ => ⟨S2048x4096, .fp8e4m3⟩
  | .local _ .vmem, ⟨2, _⟩ => ⟨S1x1x4096, .f32⟩
  | .local _ .vmem, ⟨3, _⟩ => ⟨S1x1x1, .f32⟩
  | .local _ .vmem, ⟨4, _⟩ => ⟨S1x1x4096, .f32⟩
  | .local _ .vmem, ⟨5, _⟩ => ⟨S4x3072x4096, .bf16⟩
  | .local _ .vmem, ⟨6, _⟩ => ⟨S4x3072x2048, .fp8e4m3⟩
  | _, _ => ⟨S4x3072x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x3072x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x3072x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x3072x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Scale.lean ====
/-
  The power of two that the activations are multiplied by: what the kernel computes equals what the reference computes.

  Both take the exponent `e` that `frexp` gives the magnitude `a` of the scale and multiply by `2 ^ (1 - e)`.
    * The kernel counts the words `k = 1, …, 255` whose pattern `k << 23`, read as a float, is at most `a`. These floats
      are f32's normal powers of two and, last, infinity. From the count it gets `e`, and `2 ^ (1 - e)` again from bits.
    * The reference takes `⌊log a / log 2⌋ + 1`, at most 128, where `a` is a normal number and 0 elsewhere, and `exp2`.
-/
module

public import Idealize.ShloMosaic.Lib.Pointwise
public import Idealize.ShloMosaic.Lib.IndicatorCount

@[expose] public section

set_option maxRecDepth 16384

noncomputable section

namespace Cert.Scale

open Idealize.ShloMosaic

/-- The word `k << 23`: the f32 pattern with exponent field `k` and nothing else. -/
def word (k : ℕ) : BitVec 32 := IntOp.shli ArithUnit.vector (BitVec.ofNat 32 k) 23#32

/-- The kernel's power of two at magnitude `a`, as the kernel's operations spell it. -/
def kernelScale (a : EReal) : EReal :=
  Ideal.ofBits FTy.f32 1056964608#32 *
    Ideal.ofBits FTy.f32
      (IntOp.shli ArithUnit.vector
        (IntOp.addi
          (IntOp.subi (1#32)
            (Scalar.select
              (IntOp.ori
                (IntOp.cmpi CmpIPredicate.eq
                  (Finset.fold IntOp.addi (0#32)
                    (fun x : Fin 256 => BitVec.setWidth 32
                      (IntOp.andi (IntOp.cmpi CmpIPredicate.sgt (BitVec.ofNat 32 ↑x) 0#32)
                        (BitVec.ofBool (decide (Ideal.ofBits FTy.f32 (word ↑x) ≤ a)))))
                    Finset.univ)
                  0#32)
                (IntOp.cmpi CmpIPredicate.eq
                  (Finset.fold IntOp.addi (0#32)
                    (fun x : Fin 256 => BitVec.setWidth 32
                      (IntOp.andi (IntOp.cmpi CmpIPredicate.sgt (BitVec.ofNat 32 ↑x) 0#32)
                        (BitVec.ofBool (decide (Ideal.ofBits FTy.f32 (word ↑x) ≤ a)))))
                    Finset.univ)
                  255#32))
              (0#32)
              (IntOp.subi
                (Finset.fold IntOp.addi (0#32)
                  (fun x : Fin 256 => BitVec.setWidth 32
                    (IntOp.andi (IntOp.cmpi CmpIPredicate.sgt (BitVec.ofNat 32 ↑x) 0#32)
                      (BitVec.ofBool (decide (Ideal.ofBits FTy.f32 (word ↑x) ≤ a)))))
                  Finset.univ)
                126#32)))
          128#32)
        23#32)

/-- The reference's power of two at magnitude `a`, as the reference's operations spell it. -/
def referenceScale (a : EReal) : EReal :=
  Ideal.exp2
    (1 -
      Scalar.select
        (IntOp.andi (BitVec.ofBool (decide (Ideal.ofBits FTy.f32 8388608#32 ≤ a)))
          (BitVec.ofBool (decide (a < Ideal.ofBits FTy.f32 2139095040#32))))
        (min
          (Ideal.liftRound Int.floor
              (Ideal.div (Ideal.log a) (Ideal.log (Ideal.ofBits FTy.f32 1073741824#32))) + 1)
          (Ideal.ofBits FTy.f32 1124073472#32))
        (0 : EReal))

/-! ## The floats that the words denote -/

/-- Sign, exponent field and significand of the word `k << 23`. -/
theorem word_fields : ∀ k : Fin 256, ((word k).extractLsb' 31 1 == 1#1) = false
    ∧ ((word k).extractLsb' 23 8).toNat = k.val ∧ ((word k).extractLsb' 0 23).toNat = 0 := by
  decide +kernel

/-- The word `k << 23`, `k` neither 0 nor 255, is the float `2 ^ (k - 127)`. -/
theorem word_normal (k : ℕ) (h1 : 1 ≤ k) (h2 : k ≤ 254) :
    Ideal.ofBits FTy.f32 (word k) = (((2 : ℝ) ^ ((k : ℤ) - 127) : ℝ) : EReal) := by
  obtain ⟨hs, he, hf⟩ := word_fields ⟨k, by omega⟩
  simp only at hs he hf
  show Ideal.ieee 8 23 (word k) = _
  unfold Ideal.ieee
  simp only [hs, he, hf]
  rw [if_neg (by omega), if_neg (by omega)]
  refine congrArg Real.toEReal ?_
  rw [if_neg (by decide), show ((2 ^ 23 + 0 : ℕ) : ℝ) = (2 : ℝ) ^ (23 : ℤ) by norm_num, one_mul,
    ← zpow_add₀ (by norm_num : (2 : ℝ) ≠ 0)]
  refine congrArg (fun z : ℤ => (2 : ℝ) ^ z) ?_
  norm_num

/-- The word `255 << 23` is infinity. -/
theorem word_top : Ideal.ofBits FTy.f32 (word 255) = ⊤ := by
  obtain ⟨hs, he, hf⟩ := word_fields ⟨255, by omega⟩
  simp only at hs he hf
  show Ideal.ieee 8 23 (word 255) = _
  unfold Ideal.ieee
  simp only [hs, he, hf]
  simp

/-- The constant 1/2. -/
theorem half : Ideal.ofBits FTy.f32 1056964608#32 = (((2 : ℝ) ^ (-1 : ℤ) : ℝ) : EReal) :=
  (congrArg (Ideal.ofBits FTy.f32) (by decide : (1056964608#32) = word 126)).trans (word_normal 126 (by omega) (by omega))

/-- The smallest normal number. -/
theorem tiny : Ideal.ofBits FTy.f32 8388608#32 = (((2 : ℝ) ^ (-126 : ℤ) : ℝ) : EReal) :=
  (congrArg (Ideal.ofBits FTy.f32) (by decide : (8388608#32) = word 1)).trans (word_normal 1 (by omega) (by omega))

/-- Infinity. -/
theorem infinity : Ideal.ofBits FTy.f32 2139095040#32 = ⊤ :=
  (congrArg (Ideal.ofBits FTy.f32) (by decide : (2139095040#32) = word 255)).trans word_top

/-- The constant 2. -/
theorem two : Ideal.ofBits FTy.f32 1073741824#32 = ((2 : ℝ) : EReal) :=
  (congrArg (Ideal.ofBits FTy.f32) (by decide : (1073741824#32) = word 128)).trans
    ((word_normal 128 (by omega) (by omega)).trans (by norm_num))

/-- The constant 128. -/
theorem cap : Ideal.ofBits FTy.f32 1124073472#32 = ((128 : ℝ) : EReal) :=
  (congrArg (Ideal.ofBits FTy.f32) (by decide : (1124073472#32) = word 134)).trans
    ((word_normal 134 (by omega) (by omega)).trans (by norm_num))

/-! ## The kernel's side, from the count -/

/-- If the words at most `a` are those up to `N`, the kernel's count is `N`. -/
theorem count (a : EReal) (N : ℕ) (hN : N ≤ 255)
    (h : ∀ k : ℕ, 1 ≤ k → k ≤ 255 → (Ideal.ofBits FTy.f32 (word k) ≤ a ↔ k ≤ N)) :
    Finset.fold IntOp.addi (0#32)
      (fun x : Fin 256 => BitVec.setWidth 32
        (IntOp.andi (IntOp.cmpi CmpIPredicate.sgt (BitVec.ofNat 32 ↑x) 0#32)
          (BitVec.ofBool (decide (Ideal.ofBits FTy.f32 (word ↑x) ≤ a)))))
      Finset.univ = BitVec.ofNat 32 N := by
  rw [IndicatorCount.fold_addi_setWidth_eq_card]
  congr 1
  have hpos : ∀ k : Fin 256, IntOp.cmpi CmpIPredicate.sgt (BitVec.ofNat 32 k.val) 0#32 = BitVec.ofBool (decide (0 < k.val)) := by
    decide +kernel
  have hset : (Finset.univ.filter fun k : Fin 256 =>
      IntOp.andi (IntOp.cmpi CmpIPredicate.sgt (BitVec.ofNat 32 ↑k) 0#32)
        (BitVec.ofBool (decide (Ideal.ofBits FTy.f32 (word ↑k) ≤ a))) = 1#1) = Finset.Ioc 0 ⟨N, by omega⟩ := by
    ext k
    rw [Finset.mem_filter, Finset.mem_Ioc, hpos, Fin.lt_def, Fin.le_def]
    by_cases h0 : 0 < k.val
    · have := h k.val h0 (by omega)
      by_cases h1 : Ideal.ofBits FTy.f32 (word k.val) ≤ a
      · simp [IntOp.andi, h0, h1, this.mp h1]
      · have h2 : ¬ k.val ≤ N := fun h2 => h1 (this.mpr h2)
        simp [IntOp.andi, h0, h1, h2]
    · simp [IntOp.andi, h0]
  rw [hset, Fin.card_Ioc]
  simp

/-- The kernel's last word from the count `N`. -/
theorem last_word : ∀ N : Fin 256,
    IntOp.addi (IntOp.subi (1#32)
      (Scalar.select
        (IntOp.ori (IntOp.cmpi CmpIPredicate.eq (BitVec.ofNat 32 N.val) 0#32) (IntOp.cmpi CmpIPredicate.eq (BitVec.ofNat 32 N.val) 255#32))
        (0#32) (IntOp.subi (BitVec.ofNat 32 N.val) 126#32))) 128#32
      = BitVec.ofNat 32 (if N.val = 0 ∨ N.val = 255 then 129 else 255 - N.val) := by
  decide +kernel

/-- If the words at most `a` are those up to `N`, the kernel's power of two is `2 ^ (127 - N)`, or 2 at `N = 0` and `N = 255`. -/
theorem kernelScale_of_count (a : EReal) (N : ℕ) (hN : N ≤ 255)
    (h : ∀ k : ℕ, 1 ≤ k → k ≤ 255 → (Ideal.ofBits FTy.f32 (word k) ≤ a ↔ k ≤ N)) :
    kernelScale a = (((2 : ℝ) ^ (if N = 0 ∨ N = 255 then (1 : ℤ) else 127 - N) : ℝ) : EReal) := by
  unfold kernelScale
  rw [count a N hN h, last_word ⟨N, by omega⟩, half]
  show _ * Ideal.ofBits FTy.f32 (word (if N = 0 ∨ N = 255 then 129 else 255 - N)) = _
  rw [word_normal _ (by split <;> omega) (by split <;> omega), ← EReal.coe_mul, ← zpow_add₀ (by norm_num : (2 : ℝ) ≠ 0)]
  congr 2
  split <;> omega

/-! ## The two sides agree -/

/-- The two powers of two are equal at every magnitude. -/
theorem kernelScale_eq (a : EReal) (ha : 0 ≤ a) : kernelScale a = referenceScale a := by
  have two_pow_mono : ∀ {x y : ℤ}, (2 : ℝ) ^ x ≤ (2 : ℝ) ^ y ↔ x ≤ y := zpow_le_zpow_iff_right₀ (by norm_num)
  have one_exp2 : Ideal.exp2 (1 - (0 : EReal)) = (((2 : ℝ) ^ (1 : ℤ) : ℝ) : EReal) := by
    rw [sub_zero, show (1 : EReal) = ((1 : ℝ) : EReal) from rfl]
    show ((Real.rpow 2 1 : ℝ) : EReal) = _
    congr 1
    exact (Real.rpow_one 2).trans (zpow_one 2).symm
  unfold referenceScale
  rw [tiny, infinity, two, cap]
  induction a using EReal.rec with
  | bot => exact absurd ha (by simp)
  | top =>
    rw [kernelScale_of_count ⊤ 255 (by omega) (fun k h1 h2 => by simp [h2]), if_pos (Or.inr rfl), ← one_exp2]
    simp [IntOp.andi, Scalar.select]
  | coe r =>
    by_cases hr : (2 : ℝ) ^ (-126 : ℤ) ≤ r
    · have hr0 : 0 < r := lt_of_lt_of_le (by positivity) hr
      have hlog2 : 0 < Real.log 2 := Real.log_pos (by norm_num)
      set E : ℤ := ⌊Real.log r * (1 / Real.log 2)⌋ with hE
      have hle : ∀ x : ℤ, (2 : ℝ) ^ x ≤ r ↔ x ≤ E := fun x => by
        rw [hE, Int.le_floor, mul_one_div, le_div_iff₀ hlog2, ← Real.log_zpow, Real.log_le_log_iff (by positivity) hr0]
      have hE1 : -126 ≤ E := (hle _).mp hr
      have hcount := kernelScale_of_count (r : EReal) (min (E + 127) 254).toNat (by omega) (fun k h1 h2 => by
        by_cases h3 : k = 255
        · subst h3
          rw [word_top]
          simp only [top_le_iff, EReal.coe_ne_top, false_iff]
          omega
        · rw [word_normal k h1 (by omega), EReal.coe_le_coe_iff, hle]
          omega)
      rw [hcount, if_neg (by omega)]
      have hlog : Ideal.div (Ideal.log (r : EReal)) (Ideal.log ((2 : ℝ) : EReal)) = ((Real.log r * (1 / Real.log 2) : ℝ) : EReal) := by
        show Ideal.div (if r ≤ 0 then ⊥ else (Real.log r : EReal)) (if (2 : ℝ) ≤ 0 then ⊥ else (Real.log 2 : EReal)) = _
        rw [if_neg (not_le.mpr hr0), if_neg (by norm_num), Ideal.div_coe hlog2.ne', EReal.coe_mul]
      rw [hlog]
      show _ = Ideal.exp2 (1 - Scalar.select _ (min (((⌊Real.log r * (1 / Real.log 2)⌋ : ℝ) : EReal) + 1) ((128 : ℝ) : EReal)) 0)
      rw [← hE]
      have hsel : IntOp.andi (BitVec.ofBool (decide ((((2 : ℝ) ^ (-126 : ℤ) : ℝ) : EReal) ≤ (r : EReal))))
          (BitVec.ofBool (decide ((r : EReal) < ⊤))) = 1#1 := by
        rw [decide_eq_true (EReal.coe_le_coe_iff.mpr hr), decide_eq_true (EReal.coe_lt_top r)]
        rfl
      rw [hsel]
      have hmin : min (((E : ℝ) : EReal) + 1) ((128 : ℝ) : EReal) = (((min (E + 1) 128 : ℤ) : ℝ) : EReal) := by
        rw [show (1 : EReal) = ((1 : ℝ) : EReal) from rfl, ← EReal.coe_add, ← EReal.coe_strictMono.monotone.map_min]
        push_cast
        rfl
      rw [hmin]
      show _ = Ideal.exp2 (((1 : ℝ) : EReal) - (((min (E + 1) 128 : ℤ) : ℝ) : EReal))
      rw [← EReal.coe_sub]
      show _ = ((Real.rpow 2 (1 - ((min (E + 1) 128 : ℤ) : ℝ)) : ℝ) : EReal)
      congr 1
      rw [show (1 - ((min (E + 1) 128 : ℤ) : ℝ)) = ((1 - min (E + 1) 128 : ℤ) : ℝ) by push_cast; rfl]
      refine Eq.trans ?_ (Real.rpow_intCast 2 _).symm
      congr 1
      omega
    · have hlow := kernelScale_of_count (r : EReal) 0 (by omega) (fun k h1 h2 => by
        by_cases h3 : k = 255
        · subst h3
          rw [word_top]
          simp
        · rw [word_normal k h1 (by omega), EReal.coe_le_coe_iff]
          constructor
          · intro h4
            exact absurd ((two_pow_mono.mpr (by omega)).trans h4) hr
          · omega)
      rw [hlow, if_pos (by omega), ← one_exp2]
      have hsel : IntOp.andi (BitVec.ofBool (decide ((((2 : ℝ) ^ (-126 : ℤ) : ℝ) : EReal) ≤ (r : EReal))))
          (BitVec.ofBool (decide ((r : EReal) < ⊤))) = 0#1 := by
        have : ¬ ((((2 : ℝ) ^ (-126 : ℤ) : ℝ) : EReal) ≤ (r : EReal)) := by rwa [EReal.coe_le_coe_iff]
        rw [decide_eq_false this]
        simp [IntOp.andi]
      rw [hsel]
      rfl

/-- A magnitude is not negative. -/
theorem absf_nonneg (s : EReal) : 0 ≤ FloatOps.absf (F := Ideal) (φ := .f32) s := by
  show (0 : EReal) ≤ max s (-s)
  rcases le_total 0 s with h | h
  · exact le_max_of_le_left h
  · exact le_max_of_le_right (by simpa using h)

end Cert.Scale

end
-- ==== Proof.KernelBlock.lean ====
/-
  What one grid point of the idealized kernel computes from its input blocks: the codes of its 1024 rows, and the
  product of these codes with the weights, scaled and shifted.
-/
module

public import proofs.«01_k».proof.Proof.Gen.KernelIdeal.Frame
public import proofs.«01_k».proof.Proof.Scale
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem

/-- The code of one activation `x` under the scale `s`: `x` times the power of two, clipped to ±448. -/
def codeOf (s x : EReal) : EReal :=
  min (Ideal.ofBits FTy.f32 1138753536#32)
    (max (Ideal.ofBits FTy.f32 3286237184#32) (x * Cert.Scale.kernelScale (FloatOps.absf (F := Ideal) (φ := .f32) s)))

/-- A tile of codes, as the first half of the block computes it. -/
theorem codes_at (v0 : Vec Ideal S1x1 .f32) (X : Vec Ideal S512x2048 .bf16) (j : S512x2048.Idx) :
    k0_pay5 (F := Ideal) (k0_pay4 v0 X) j = codeOf (v0 (ix2 0 0)) (X j) := by
  pointwise [k0_pay5, k0_pay4, k0_pay3, k0_pay2, codeOf, Cert.Scale.kernelScale, Cert.Scale.word]

/-- A tile of codes, as the second half of the block computes it. -/
theorem codes_at' (v0 : Vec Ideal S1x1 .f32) (X : Vec Ideal S512x2048 .bf16) (j : S512x2048.Idx) :
    k0_pay14 (F := Ideal) (k0_pay3 v0) X j = codeOf (v0 (ix2 0 0)) (X j) := by
  pointwise [k0_pay14, k0_pay3, k0_pay2, codeOf, Cert.Scale.kernelScale, Cert.Scale.word]

/-- Element `(a, b, n)` of a stored tile of `y`: row `8 a + b` of the codes against column `n` of the weights. -/
theorem tile_at (v0 : Vec Ideal S1x1 .f32) (C : Vec Ideal S512x2048 .fp8e4m3) (W : Vec Ideal S2048x512 .fp8e4m3)
    (ws b : Vec Ideal S1x512 .f32) (x : S64x8x512.Idx) (r : Fin 512) (n : Fin 512) (hr : (r : ℕ) = x 0 * 8 + x 1) (hn : n = x 2) :
    k0_pay6 (F := Ideal) (k0_pay2 v0) C W ws b x
      = (∑ k : Fin 2048, C (ix2 r k) * W (ix2 k n)) * v0 (ix2 0 0) * ws (ix2 0 n) + b (ix2 0 n) := by
  subst hn
  pointwise [k0_pay6, k0_pay2]
  blk_point []

variable (m : (ℓ : Loc nD τ sig) → Buf (Elt Ideal) ℓ)

/-- The codes that point `t` leaves in its block. -/
theorem block6 (c : Dev nD) (t : Fin cfg0.N) (y : S1024x2048.Idx) :
    (outsAt0 m c t).2 y = codeOf ((show Vec Ideal S1x1 .f32 from iblk m c 0 t) (ix2 0 0)) ((show Vec Ideal S1024x2048 .bf16 from iblk m c 1 t) y) := by
  unfold outsAt0
  frame_out
  canon_tiles x h
  · refine (codes_at' _ _ x).trans ?_
    pointwise
    blk_point []
  · refine (codes_at _ _ x).trans ?_
    pointwise
    blk_point []

/-- Element `(a, b, n)` of the block of `y` that point `t` leaves. -/
theorem block5 (c : Dev nD) (t : Fin cfg0.N) (y : S128x8x4096.Idx) (r : Fin 1024) (n : Fin 4096)
    (hr : (r : ℕ) = y 0 * 8 + y 1) (hn : n = y 2) :
    (outsAt0 m c t).1 y = (∑ k : Fin 2048, codeOf ((show Vec Ideal S1x1 .f32 from iblk m c 0 t) (ix2 0 0)) ((show Vec Ideal S1024x2048 .bf16 from iblk m c 1 t) (ix2 r k))
        * (show Vec Ideal S2048x4096 .fp8e4m3 from iblk m c 2 t) (ix2 k n))
      * (show Vec Ideal S1x1 .f32 from iblk m c 0 t) (ix2 0 0) * (show Vec Ideal S1x4096 .f32 from iblk m c 3 t) (ix2 0 n)
      + (show Vec Ideal S1x4096 .f32 from iblk m c 4 t) (ix2 0 n) := by
  subst hn
  unfold outsAt0
  frame_out
  simp only [View.readCov_cons_toLoadRect]
  canon_tiles x h
  all_goals
    obtain_idx j : S512x512 := [(x 0 : ℕ) * 8 + (x 1 : ℕ), (x 2 : ℕ)] with hj
    refine (tile_at _ _ _ _ _ x (j 0) (j 1) hj0 (Fin.ext hj1)).trans ?_
    simp only [codes_at, codes_at']
    pointwise
    blk_point []

end Cert.KernelIdeal.Value

end
-- ==== Proof.KernelArray.lean ====
/-
  What the arrays hold after the idealized kernel: the codes and `y`, as functions of the arguments.
-/
module

public import proofs.«01_k».proof.Proof.KernelBlock
public import Idealize.ShloMosaic.Lib.Claim

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

/-- The codes of the activations `X` under the scale `s`. -/
def codesOf (X : Vec Ideal S4x3072x2048 .bf16) (s : Vec Ideal S1 .f32) : Vec Ideal S4x3072x2048 .fp8e4m3 :=
  fun j => codeOf (s (ix1 0)) (X j)

/-- The layer's result: codes times weights, times both scales, plus the bias. -/
def linear (X : Vec Ideal S4x3072x2048 .bf16) (W : Vec Ideal S2048x4096 .fp8e4m3) (ws : Vec Ideal S4096 .f32)
    (s : Vec Ideal S1 .f32) (b : Vec Ideal S4096 .f32) : Vec Ideal S4x3072x4096 .bf16 :=
  fun j => (∑ k : Fin 2048, codeOf (s (ix1 0)) (X (ix3 (j 0) (j 1) k)) * W (ix2 k (j 2))) * s (ix1 0) * ws (ix1 (j 2)) + b (ix1 (j 2))

variable (m : (ℓ : Loc nD τ sig) → Buf (Elt Ideal) ℓ)

/-- The index maps of the windows. -/
theorem idx : ∀ t : Fin cfg0.N, win0_0.index t = ![0, 0] ∧ win0_1.index t = ![t.val, 0] ∧ win0_2.index t = ![0, 0]
    ∧ win0_3.index t = ![0, 0] ∧ win0_4.index t = ![0, 0] ∧ win0_5.index t = ![t.val, 0, 0] ∧ win0_6.index t = ![t.val, 0] :=
  (by decide +kernel : ∀ t : Fin grid0.N, _)

/-- The scale as the region finds it. -/
theorem V_v0 (c : Dev nD) : V m c main_v0 = shapeCast S1x1 (show Vec Ideal S1 .f32 from m ((c : Thread nD τ).loc main_arg3)) shapeCasts_S1_S1x1 := rfl

/-- The activations as the region finds them. -/
theorem V_v1 (c : Dev nD) : V m c main_v1 = shapeCast S12288x2048 (show Vec Ideal S4x3072x2048 .bf16 from m ((c : Thread nD τ).loc main_arg0)) shapeCasts_S4x3072x2048_S12288x2048 := rfl

/-- The weight scales as the region finds them. -/
theorem V_v2 (c : Dev nD) : V m c main_v2 = shapeCast S1x4096 (show Vec Ideal S4096 .f32 from m ((c : Thread nD τ).loc main_arg2)) shapeCasts_S4096_S1x4096 := rfl

/-- The bias as the region finds them. -/
theorem V_v3 (c : Dev nD) : V m c main_v3 = shapeCast S1x4096 (show Vec Ideal S4096 .f32 from m ((c : Thread nD τ).loc main_arg4)) shapeCasts_S4096_S1x4096 := rfl

/-- The scale, as a point reads it. -/
theorem read0 (c : Dev nD) (t : Fin cfg0.N) :
    (show Vec Ideal S1x1 .f32 from iblk m c 0 t) (ix2 0 0) = (show Vec Ideal S1 .f32 from m ((c : Thread nD τ).loc main_arg3)) (ix1 0) := by
  blk_simp [iblk]
  rw [V_v0]
  pointwise
  blk_ext []

/-- Row `r` of point `t`'s activations is row `(a, b)` of the argument. -/
theorem read1 (c : Dev nD) (t : Fin cfg0.N) (r : Fin 1024) (k : Fin 2048) (a : Fin 4) (b : Fin 3072)
    (h : t.val * 1024 + r.val = a.val * 3072 + b.val) :
    (show Vec Ideal S1024x2048 .bf16 from iblk m c 1 t) (ix2 r k)
      = (show Vec Ideal S4x3072x2048 .bf16 from m ((c : Thread nD τ).loc main_arg0)) (ix3 a b k) := by
  blk_simp [iblk]
  rw [V_v1]
  pointwise
  blk_ext [idx t]

/-- The weights, as a point reads them. -/
theorem read2 (c : Dev nD) (t : Fin cfg0.N) (k : Fin 2048) (n : Fin 4096) :
    (show Vec Ideal S2048x4096 .fp8e4m3 from iblk m c 2 t) (ix2 k n)
      = (show Vec Ideal S2048x4096 .fp8e4m3 from m ((c : Thread nD τ).loc main_arg1)) (ix2 k n) := by
  blk_ext [iblk, V, idx t]

/-- The weight scales, as a point reads them. -/
theorem read3 (c : Dev nD) (t : Fin cfg0.N) (n : Fin 4096) :
    (show Vec Ideal S1x4096 .f32 from iblk m c 3 t) (ix2 0 n)
      = (show Vec Ideal S4096 .f32 from m ((c : Thread nD τ).loc main_arg2)) (ix1 n) := by
  blk_simp [iblk]
  rw [V_v2]
  pointwise
  blk_ext [idx t]

/-- The bias, as a point reads it. -/
theorem read4 (c : Dev nD) (t : Fin cfg0.N) (n : Fin 4096) :
    (show Vec Ideal S1x4096 .f32 from iblk m c 4 t) (ix2 0 n)
      = (show Vec Ideal S4096 .f32 from m ((c : Thread nD τ).loc main_arg4)) (ix1 n) := by
  blk_simp [iblk]
  rw [V_v3]
  pointwise
  blk_ext [idx t]

/-- The layer's result over the arguments on core `c`. -/
abbrev yOf (c : Dev nD) : Vec Ideal S4x3072x4096 .bf16 :=
  linear (m ((c : Thread nD τ).loc main_arg0)) (m ((c : Thread nD τ).loc main_arg1)) (m ((c : Thread nD τ).loc main_arg2))
    (m ((c : Thread nD τ).loc main_arg3)) (m ((c : Thread nD τ).loc main_arg4))
/-- The codes over the arguments on core `c`. -/
abbrev cOf (c : Dev nD) : Vec Ideal S4x3072x2048 .fp8e4m3 :=
  codesOf (m ((c : Thread nD τ).loc main_arg0)) (m ((c : Thread nD τ).loc main_arg3))

/-- The array of `y`, rows in groups of eight. -/
def array5 (c : Dev nD) : Vec Ideal S1536x8x4096 .bf16 := fun i =>
  yOf m c (ix3 ⟨((i 0 : ℕ) * 8 + (i 1 : ℕ)) / 3072, by have h0 : (i 0 : ℕ) < 1536 := (i 0).isLt; have h1 : (i 1 : ℕ) < 8 := (i 1).isLt; omega⟩
    ⟨((i 0 : ℕ) * 8 + (i 1 : ℕ)) % 3072, Nat.mod_lt _ (by decide)⟩ (i 2))

/-- The array of codes, one row after the other. -/
def array6 (c : Dev nD) : Vec Ideal S12288x2048 .fp8e4m3 := fun i =>
  cOf m c (ix3 ⟨(i 0 : ℕ) / 3072, by have h0 : (i 0 : ℕ) < 12288 := (i 0).isLt; omega⟩ ⟨(i 0 : ℕ) % 3072, Nat.mod_lt _ (by decide)⟩ (i 1))

/-- Element `y` of what point `t` leaves of `y` is the array's element there. -/
theorem point5 (c : Dev nD) (t : Fin cfg0.N) (y : S128x8x4096.Idx) (i : S1536x8x4096.Idx)
    (h0 : (i 0 : ℕ) = t.val * 128 + y 0) (h1 : (i 1 : ℕ) = y 1) (h2 : (i 2 : ℕ) = y 2) :
    (outsAt0 m c t).1 y = array5 m c i := by
  obtain ⟨a, b, n, rfl⟩ : ∃ (a : Fin 1536) (b : Fin 8) (n : Fin 4096), i = ix3 a b n := ⟨i 0, i 1, i 2, by blk_ext []⟩
  have hy0 : (y 0 : ℕ) < 128 := (y 0).isLt
  have hy1 : (y 1 : ℕ) < 8 := (y 1).isLt
  refine (block5 m c t y ⟨(y 0 : ℕ) * 8 + (y 1 : ℕ), by omega⟩ n rfl (Fin.ext h2)).trans ?_
  rw [read0, read3, read4]
  refine congrArg (fun z : EReal => z * _ * _ + _) (Finset.sum_congr rfl fun k _ => ?_)
  rw [read2]
  refine congrArg (fun z : EReal => codeOf _ z * _) (read1 m c t _ k _ _ ?_)
  show t.val * 1024 + ((y 0 : ℕ) * 8 + (y 1 : ℕ)) = ((a : ℕ) * 8 + (b : ℕ)) / 3072 * 3072 + ((a : ℕ) * 8 + (b : ℕ)) % 3072
  have h0' : (a : ℕ) = t.val * 128 + y 0 := h0
  have h1' : (b : ℕ) = y 1 := h1
  omega

/-- Element `y` of the codes that point `t` leaves is the array's element there. -/
theorem point6 (c : Dev nD) (t : Fin cfg0.N) (y : S1024x2048.Idx) (i : S12288x2048.Idx)
    (h0 : (i 0 : ℕ) = t.val * 1024 + y 0) (h1 : (i 1 : ℕ) = y 1) :
    (outsAt0 m c t).2 y = array6 m c i := by
  obtain ⟨a, b, rfl⟩ : ∃ (a : Fin 1024) (b : Fin 2048), y = ix2 a b := ⟨y 0, y 1, by blk_ext []⟩
  refine (block6 m c t _).trans ?_
  rw [read0]
  obtain rfl : i 1 = b := Fin.ext h1
  refine congrArg (fun z : EReal => codeOf _ z) (read1 m c t _ _ _ _ ?_)
  show t.val * 1024 + (a : ℕ) = (i 0 : ℕ) / 3072 * 3072 + (i 0 : ℕ) % 3072
  have : (i 0 : ℕ) = t.val * 1024 + (a : ℕ) := h0
  omega

/-- The pipeline leaves the array of `y`. -/
theorem arr5 (c : Dev nD) : (dats m 0 c).arrAt 5 cfg0.N = array5 m c :=
  (dats m 0 c).arrAt_eq_of_covers 5 _ (by decide +kernel) fun t _ y => by
    blk_simp
    rw [after0_5]
    refine point5 m c t y _ ?_ ?_ ?_ <;> blk_simp [idx t] <;> omega

/-- The pipeline leaves the array of codes. -/
theorem arr6 (c : Dev nD) : (dats m 0 c).arrAt 6 cfg0.N = array6 m c :=
  (dats m 0 c).arrAt_eq_of_covers 6 _ (by decide +kernel) fun t _ y => by
    blk_simp
    rw [after0_6]
    refine point6 m c t y _ ?_ ?_ <;> blk_simp [idx t] <;> omega

/-- Grouping the rows in eights and splitting them by batch is the layer's result. -/
theorem reshape5 (c : Dev nD) : shapeCast S4x3072x4096 (array5 m c) shapeCasts_S1536x8x4096_S4x3072x4096 = yOf m c := by
  funext j
  pointwise [array5]
  blk_ext []

/-- Splitting the rows by batch is the codes. -/
theorem reshape6 (c : Dev nD) : shapeCast S4x3072x2048 (array6 m c) shapeCasts_S12288x2048_S4x3072x2048 = cOf m c := by
  funext j
  pointwise [array6]
  blk_ext []

/-- The buffer of `y` at the end: what the pipeline leaves, its rows split by batch. -/
theorem W_v5 (c : Dev nD) : Pipeline.afterTail₀ cfgs (dats m) 0 (V0 m) [hostOps1] c main_v5 = yOf m c := by
  have e : Pipeline.withArrays (cfgs 0).spec c (V0 m c) (fun w => (dats m 0 c).arrAt w (cfgs 0).N) (Proc.devRef .tc main_v4_0) = array5 m c :=
    (Pipeline.withArrays_arr spec0 launch0.win.arr_inj c (V0 m c) _ 5).trans (arr5 m c)
  rw [← reshape5, ← e]
  rfl

/-- The buffer of codes at the end: what the pipeline leaves, its rows split by batch. -/
theorem W_v6 (c : Dev nD) : Pipeline.afterTail₀ cfgs (dats m) 0 (V0 m) [hostOps1] c main_v6 = cOf m c := by
  have e : Pipeline.withArrays (cfgs 0).spec c (V0 m c) (fun w => (dats m 0 c).arrAt w (cfgs 0).N) (Proc.devRef .tc main_v4_1) = array6 m c :=
    (Pipeline.withArrays_arr spec0 launch0.win.arr_inj c (V0 m c) _ 6).trans (arr6 m c)
  rw [← reshape6, ← e]
  rfl

/-- The idealized kernel runs; it ends with the layer's result and the codes in its result buffers, its arguments unchanged. -/
theorem run (ρ : Dev nD → PrngReg) : θ_run defs (onTc (τ := τ) (main (F := Ideal))) ⟨m, fun _ => 0, ρ⟩ (fun r => ∀ c : Dev nD,
      r.2.mem ((c : Thread nD τ).loc main_v5) = yOf m c
      ∧ r.2.mem ((c : Thread nD τ).loc main_v6) = cOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c =>
    ⟨((h c).2 main_v5 (Pipeline.mem_restRefs_of main_v5 (by decide) (by decide))).trans (W_v5 m c),
     ((h c).2 main_v6 (Pipeline.mem_restRefs_of main_v6 (by decide) (by decide))).trans (W_v6 m c),
     ((h c).2 main_arg0 (Pipeline.mem_restRefs_of main_arg0 (by decide) (by decide))).trans (W_main_arg0 m (dats m) c),
     ((h c).1 2).trans (((dats m 0 c).arrAt_in 2 rfl _).trans ((A_eq m c 2).trans (V_main_arg1 m c))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩) (run_main m ρ)

end Cert.KernelIdeal.Value

end
-- ==== Proof.ReferenceValue.lean ====
/-
  What the reference leaves in its result arrays, as functions of the arguments: its one grid point sees every array
  whole.
-/
module

public import proofs.«01_k».proof.Proof.KernelArray
public import proofs.«01_k».proof.Proof.Gen.ReferenceIdeal.Value

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

/-- The code of one activation `x` under the scale `s`, as the reference computes it. -/
def codeOf (s x : EReal) : EReal :=
  min (Ideal.ofBits FTy.f32 1138753536#32)
    (max (Ideal.ofBits FTy.f32 3286237184#32) (x * Cert.Scale.referenceScale (FloatOps.absf (F := Ideal) (φ := .f32) s)))

/-- The codes of the activations `X` under the scale `s`. -/
def codesOf (X : Vec Ideal S4x3072x2048 .bf16) (s : Vec Ideal S1 .f32) : Vec Ideal S4x3072x2048 .fp8e4m3 :=
  fun j => codeOf (s (ix1 0)) (X j)

/-- The layer's result: codes times weights, times both scales, plus the bias. -/
def linear (X : Vec Ideal S4x3072x2048 .bf16) (W : Vec Ideal S2048x4096 .fp8e4m3) (ws : Vec Ideal S4096 .f32)
    (s : Vec Ideal S1 .f32) (b : Vec Ideal S4096 .f32) : Vec Ideal S4x3072x4096 .bf16 :=
  fun j => (∑ k : Fin 2048, codeOf (s (ix1 0)) (X (ix3 (j 0) (j 1) k)) * W (ix2 k (j 2))) * s (ix1 0) * ws (ix1 (j 2)) + b (ix1 (j 2))

/-- The codes, as the reference stores them. -/
theorem codes_at (s : Vec Ideal S1x1x1 .f32) (X : Vec Ideal S4x3072x2048 .bf16) (j : S4x3072x2048.Idx) :
    k0_pay3 (F := Ideal) s X j = codeOf (s (ix3 0 0 0)) (X j) := by
  pointwise [k0_pay3, k0_pay2, codeOf, Cert.Scale.referenceScale]
  rfl

/-- The result, as the reference stores it. -/
theorem linear_at (s : Vec Ideal S1x1x1 .f32) (X : Vec Ideal S4x3072x2048 .bf16) (W : Vec Ideal S2048x4096 .fp8e4m3)
    (ws b : Vec Ideal S1x1x4096 .f32) (j : S4x3072x4096.Idx) :
    k0_pay1 (F := Ideal) (k0_pay4 s X W) ws b j
      = (∑ k : Fin 2048, k0_pay3 (F := Ideal) s X (ix3 (j 0) (j 1) k) * W (ix2 k (j 2))) * s (ix3 0 0 0) * ws (ix3 0 0 (j 2)) + b (ix3 0 0 (j 2)) := by
  pointwise [k0_pay1, k0_pay4, k0_pay2]

variable (m : (ℓ : Loc nD τ sig) → Buf (Elt Ideal) ℓ)

/-- The index maps of the windows at the one point. -/
theorem idx : ∀ t : Fin cfg0.N, win0_0.index t = ![0, 0, 0] ∧ win0_1.index t = ![0, 0] ∧ win0_2.index t = ![0, 0, 0]
    ∧ win0_3.index t = ![0, 0, 0] ∧ win0_4.index t = ![0, 0, 0] ∧ win0_5.index t = ![0, 0, 0] ∧ win0_6.index t = ![0, 0, 0] :=
  (by decide +kernel : ∀ t : Fin grid0.N, _)

/-- The weight scales as the region finds them. -/
theorem V_v0 (c : Dev nD) : V m c main_v0 = shapeCast S1x1x4096 (show Vec Ideal S4096 .f32 from m ((c : Thread nD τ).loc main_arg2)) shapeCasts_S4096_S1x1x4096 := rfl

/-- The scale as the region finds it. -/
theorem V_v1 (c : Dev nD) : V m c main_v1 = shapeCast S1x1x1 (show Vec Ideal S1 .f32 from m ((c : Thread nD τ).loc main_arg3)) shapeCasts_S1_S1x1x1 := rfl

/-- The bias as the region finds it. -/
theorem V_v2 (c : Dev nD) : V m c main_v2 = shapeCast S1x1x4096 (show Vec Ideal S4096 .f32 from m ((c : Thread nD τ).loc main_arg4)) shapeCasts_S4096_S1x1x4096 := rfl

/-- The activations, as the point reads them. -/
theorem read0 (c : Dev nD) (t : Fin cfg0.N) (j : S4x3072x2048.Idx) :
    (show Vec Ideal S4x3072x2048 .bf16 from iblk m c 0 t) j = (show Vec Ideal S4x3072x2048 .bf16 from m ((c : Thread nD τ).loc main_arg0)) j := by
  blk_ext [iblk, V, idx t]

/-- The weights, as the point reads them. -/
theorem read1 (c : Dev nD) (t : Fin cfg0.N) (k : Fin 2048) (n : Fin 4096) :
    (show Vec Ideal S2048x4096 .fp8e4m3 from iblk m c 1 t) (ix2 k n)
      = (show Vec Ideal S2048x4096 .fp8e4m3 from m ((c : Thread nD τ).loc main_arg1)) (ix2 k n) := by
  blk_ext [iblk, V, idx t]

/-- The weight scales, as the point reads them. -/
theorem read2 (c : Dev nD) (t : Fin cfg0.N) (n : Fin 4096) :
    (show Vec Ideal S1x1x4096 .f32 from iblk m c 2 t) (ix3 0 0 n)
      = (show Vec Ideal S4096 .f32 from m ((c : Thread nD τ).loc main_arg2)) (ix1 n) := by
  blk_simp [iblk]
  rw [V_v0]
  pointwise
  blk_ext [idx t]

/-- The scale, as the point reads it. -/
theorem read3 (c : Dev nD) (t : Fin cfg0.N) :
    (show Vec Ideal S1x1x1 .f32 from iblk m c 3 t) (ix3 0 0 0) = (show Vec Ideal S1 .f32 from m ((c : Thread nD τ).loc main_arg3)) (ix1 0) := by
  blk_simp [iblk]
  rw [V_v1]
  pointwise
  blk_ext []

/-- The bias, as the point reads it. -/
theorem read4 (c : Dev nD) (t : Fin cfg0.N) (n : Fin 4096) :
    (show Vec Ideal S1x1x4096 .f32 from iblk m c 4 t) (ix3 0 0 n)
      = (show Vec Ideal S4096 .f32 from m ((c : Thread nD τ).loc main_arg4)) (ix1 n) := by
  blk_simp [iblk]
  rw [V_v2]
  pointwise
  blk_ext [idx t]

/-- The codes over the arguments on core `c`. -/
abbrev cOf (c : Dev nD) : Vec Ideal S4x3072x2048 .fp8e4m3 :=
  codesOf (m ((c : Thread nD τ).loc main_arg0)) (m ((c : Thread nD τ).loc main_arg3))
/-- The layer's result over the arguments on core `c`. -/
abbrev yOf (c : Dev nD) : Vec Ideal S4x3072x4096 .bf16 :=
  linear (m ((c : Thread nD τ).loc main_arg0)) (m ((c : Thread nD τ).loc main_arg1)) (m ((c : Thread nD τ).loc main_arg2))
    (m ((c : Thread nD τ).loc main_arg3)) (m ((c : Thread nD τ).loc main_arg4))

/-- An element of the codes that the point leaves. -/
theorem point6 (c : Dev nD) (t : Fin cfg0.N) (y i : S4x3072x2048.Idx) (h : i = y) :
    k0_pay3 (F := Ideal) (iblk m c 3 t) (iblk m c 0 t) y = cOf m c i := by
  subst h
  exact (codes_at _ _ i).trans (congrArg₂ codeOf (read3 m c t) (read0 m c t i))

/-- An element of the result that the point leaves. -/
theorem point5 (c : Dev nD) (t : Fin cfg0.N) (y i : S4x3072x4096.Idx) (h : i = y) :
    k0_pay1 (F := Ideal) (k0_pay4 (iblk m c 3 t) (iblk m c 0 t) (iblk m c 1 t)) (iblk m c 2 t) (iblk m c 4 t) y = yOf m c i := by
  subst h
  obtain ⟨a, b, n, rfl⟩ : ∃ (a : Fin 4) (b : Fin 3072) (n : Fin 4096), i = ix3 a b n := ⟨i 0, i 1, i 2, by blk_ext []⟩
  refine (linear_at _ _ _ _ _ (ix3 a b n)).trans ?_
  refine congrArg₂ (fun x z : EReal => x + z) (congrArg₂ (fun x z : EReal => x * z) (congrArg₂ (fun x z : EReal => x * z)
    (Finset.sum_congr rfl fun k _ => ?_) (read3 m c t)) (read2 m c t n)) (read4 m c t n)
  exact congrArg₂ (fun x z : EReal => x * z) (point6 m c t (ix3 a b k) _ rfl) (read1 m c t k n)

/-- The array of codes after the run. -/
theorem arr6 (c : Dev nD) : (dats m 0 c).arrAt 6 cfg0.N = cOf m c :=
  (dats m 0 c).arrAt_eq_of_covers 6 _ (by decide +kernel) fun t _ y => by
    blk_simp
    rw [after0_6]
    frame_out
    exact point6 m c t y _ (by blk_ext [idx t])

/-- The array of the layer's result after the run. -/
theorem arr5 (c : Dev nD) : (dats m 0 c).arrAt 5 cfg0.N = yOf m c :=
  (dats m 0 c).arrAt_eq_of_covers 5 _ (by decide +kernel) fun t _ y => by
    blk_simp
    rw [after0_5]
    frame_out
    exact point5 m c t y _ (by blk_ext [idx t])

/-- The reference runs; it ends with the layer's result and the codes in its result buffers, its arguments unchanged. -/
theorem run (ρ : Dev nD → PrngReg) : θ_run defs (onTc (τ := τ) (main (F := Ideal))) ⟨m, fun _ => 0, ρ⟩ (fun r => ∀ c : Dev nD,
      r.2.mem ((c : Thread nD τ).loc main_v3_0) = yOf m c
      ∧ r.2.mem ((c : Thread nD τ).loc main_v3_1) = cOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c => ⟨(h c).1.trans (arr5 m c), (h c).2.1.trans (arr6 m c), (h c).2.2⟩) (run_blocks m ρ)

end Cert.ReferenceIdeal.Value

end
-- ==== Proof.Equation.lean ====
/-
  The equation: kernel and reference compute the same functions of the arguments. The only difference between them is
  how the power of two is obtained, and the two ways agree at every magnitude (`Cert.Scale.kernelScale_eq`).
-/
module

public import proofs.«01_k».proof.Proof.ReferenceValue

@[expose] public section

noncomputable section

namespace Cert.Equation

open Idealize.ShloMosaic

/-- One code. -/
theorem codeOf_eq (s x : EReal) : Cert.KernelIdeal.Value.codeOf s x = Cert.ReferenceIdeal.Value.codeOf s x := by
  unfold Cert.KernelIdeal.Value.codeOf Cert.ReferenceIdeal.Value.codeOf
  rw [Cert.Scale.kernelScale_eq _ (Cert.Scale.absf_nonneg s)]

/-- All codes. -/
theorem codesOf_eq (X : Vec Ideal Cert.KernelIdeal.S4x3072x2048 .bf16) (s : Vec Ideal Cert.KernelIdeal.S1 .f32) :
    Cert.KernelIdeal.Value.codesOf X s = Cert.ReferenceIdeal.Value.codesOf X s :=
  funext fun j => codeOf_eq _ _

/-- The layer's result. -/
theorem linear_eq (X : Vec Ideal Cert.KernelIdeal.S4x3072x2048 .bf16) (W : Vec Ideal Cert.KernelIdeal.S2048x4096 .fp8e4m3)
    (ws : Vec Ideal Cert.KernelIdeal.S4096 .f32) (s : Vec Ideal Cert.KernelIdeal.S1 .f32) (b : Vec Ideal Cert.KernelIdeal.S4096 .f32) :
    Cert.KernelIdeal.Value.linear X W ws s b = Cert.ReferenceIdeal.Value.linear X W ws s b := by
  funext j
  refine congrArg (fun z : EReal => z * _ * _ + _) (Finset.sum_congr rfl fun k _ => ?_)
  exact congrArg (fun z : EReal => z * _) (codeOf_eq _ _)

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Kernel and reference, idealized, end with equal results from equal arguments: all three results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Value.yOf m c, fun c => Cert.KernelIdeal.Value.cOf m c,
    fun c => m ((c.tc : Thread Cert.KernelIdeal.nD Cert.KernelIdeal.τ).loc Cert.KernelIdeal.main_arg3), ?_, ?_⟩
  · exact (θ_run _ _ _).mono (fun r h c => ⟨(h c).1, (h c).2.1, (h c).2.2.2.2.2.1, (h c).2.2⟩) (Cert.KernelIdeal.Value.run m g)
  · refine (θ_run _ _ _).mono (fun r h c => ?_) (Cert.ReferenceIdeal.Value.run m' g')
    obtain ⟨e0, e1, e2, e3, e4⟩ := hargs c
    obtain ⟨hy, hc, hk⟩ := h c
    refine ⟨hy.trans ?_, hc.trans ?_, hk.2.2.2.1.trans e3, hk⟩
    · unfold Cert.ReferenceIdeal.Value.yOf
      rw [e0, e1, e2, e3, e4]
      exact (Cert.Equation.linear_eq _ _ _ _ _).symm
    · unfold Cert.ReferenceIdeal.Value.cOf
      rw [e0, e3]
      exact (Cert.Equation.codesOf_eq _ _).symm

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
